-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S5120x8960 : Shape := ⟨2, ![5120, 8960]⟩
abbrev S40x17920 : Shape := ⟨2, ![40, 17920]⟩
abbrev S256x5120 : Shape := ⟨2, ![256, 5120]⟩
abbrev S256x17920 : Shape := ⟨2, ![256, 17920]⟩
abbrev S5120x256 : Shape := ⟨2, ![5120, 256]⟩
abbrev S40x512 : Shape := ⟨2, ![40, 512]⟩
abbrev S256x512 : Shape := ⟨2, ![256, 512]⟩
abbrev S40x128 : Shape := ⟨2, ![40, 128]⟩
abbrev S40x128x1 : Shape := ⟨3, ![40, 128, 1]⟩
abbrev S40x256 : Shape := ⟨2, ![40, 256]⟩
abbrev S1280x256 : Shape := ⟨2, ![1280, 256]⟩
abbrev S1x256 : Shape := ⟨2, ![1, 256]⟩
abbrev S128x256 : Shape := ⟨2, ![128, 256]⟩
abbrev S256x256 : Shape := ⟨2, ![256, 256]⟩
abbrev S256x128 : Shape := ⟨2, ![256, 128]⟩
abbrev S256x128x1 : Shape := ⟨3, ![256, 128, 1]⟩
abbrev S256x1x17920 : Shape := ⟨3, ![256, 1, 17920]⟩

abbrev nBuf : Space → Nat
  | .hbm => 6
  | .vmem => 7
  | .smem => 0
  | _ => 0

abbrev bufTy : (tb : Table) → Fin (tcTables nBuf tb) → BufTy
  | .hbm, ⟨0, _⟩ => ⟨S256x1x5120, .bf16⟩
  | .hbm, ⟨1, _⟩ => ⟨S5120x8960, .i8⟩
  | .hbm, ⟨2, _⟩ => ⟨S40x17920, .bf16⟩
  | .hbm, ⟨3, _⟩ => ⟨S256x5120, .bf16⟩
  | .hbm, ⟨4, _⟩ => ⟨S256x17920, .bf16⟩
  | .hbm, ⟨5, _⟩ => ⟨S256x1x17920, .bf16⟩
  | .local _ .vmem, ⟨0, _⟩ => ⟨S256x5120, .bf16⟩
  | .local _ .vmem, ⟨1, _⟩ => ⟨S5120x256, .i8⟩
  | .local _ .vmem, ⟨2, _⟩ => ⟨S5120x256, .i8⟩
  | .local _ .vmem, ⟨3, _⟩ => ⟨S40x512, .bf16⟩
  | .local _ .vmem, ⟨4, _⟩ => ⟨S40x512, .bf16⟩
  | .local _ .vmem, ⟨5, _⟩ => ⟨S256x512, .bf16⟩
  | .local _ .vmem, ⟨6, _⟩ => ⟨S256x512, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x5120 : Shape := ⟨3, ![256, 1, 5120]⟩
abbrev S5120x8960 : Shape := ⟨2, ![5120, 8960]⟩
abbrev S40x17920 : Shape := ⟨2, ![40, 17920]⟩
abbrev S256x5120 : Shape := ⟨2, ![256, 5120]⟩
abbrev S_ : Shape := ⟨0, ![]⟩
abbrev S40x8960 : Shape := ⟨2, ![40, 8960]⟩
abbrev S40x128x8960 : Shape := ⟨3, ![40, 128, 8960]⟩
abbrev S40x1x8960 : Shape := ⟨3, ![40, 1, 8960]⟩
abbrev S256x8960 : Shape := ⟨2, ![256, 8960]⟩
abbrev S256x8960x1 : Shape := ⟨3, ![256, 8960, 1]⟩
abbrev S256x8960x2 : Shape := ⟨3, ![256, 8960, 2]⟩
abbrev S256x1x17920 : Shape := ⟨3, ![256, 1, 17920]⟩

abbrev nBuf : Space → Nat
  | .hbm => 39
  | .vmem => 0
  | .smem => 0
  | _ => 0

abbrev bufTy : (tb : Table) → Fin (tcTables nBuf tb) → BufTy
  | .hbm, ⟨0, _⟩ => ⟨S256x1x5120, .bf16⟩
  | .hbm, ⟨1, _⟩ => ⟨S5120x8960, .i8⟩
  | .hbm, ⟨2, _⟩ => ⟨S40x17920, .bf16⟩
  | .hbm, ⟨3, _⟩ => ⟨S256x5120, .bf16⟩
  | .hbm, ⟨4, _⟩ => ⟨S5120x8960, .i32⟩
  | .hbm, ⟨5, _⟩ => ⟨S_, .i32⟩
  | .hbm, ⟨6, _⟩ => ⟨S5120x8960, .i32⟩
  | .hbm, ⟨7, _⟩ => ⟨S5120x8960, .i32⟩
  | .hbm, ⟨8, _⟩ => ⟨S_, .i32⟩
  | .hbm, ⟨9, _⟩ => ⟨S5120x8960, .i32⟩
  | .hbm, ⟨10, _⟩ => ⟨S5120x8960, .i32⟩
  | .hbm, ⟨11, _⟩ => ⟨S40x8960, .bf16⟩
  | .hbm, ⟨12, _⟩ => ⟨S5120x8960, .bf16⟩
  | .hbm, ⟨13, _⟩ => ⟨S_, .bf16⟩
  | .hbm, ⟨14, _⟩ => ⟨S5120x8960, .bf16⟩
  | .hbm, ⟨15, _⟩ => ⟨S5120x8960, .bf16⟩
  | .hbm, ⟨16, _⟩ => ⟨S40x128x8960, .bf16⟩
  | .hbm, ⟨17, _⟩ => ⟨S40x1x8960, .bf16⟩
  | .hbm, ⟨18, _⟩ => ⟨S40x128x8960, .bf16⟩
  | .hbm, ⟨19, _⟩ => ⟨S40x128x8960, .bf16⟩
  | .hbm, ⟨20, _⟩ => ⟨S5120x8960, .bf16⟩
  | .hbm, ⟨21, _⟩ => ⟨S40x8960, .bf16⟩
  | .hbm, ⟨22, _⟩ => ⟨S5120x8960, .bf16⟩
  | .hbm, ⟨23, _⟩ => ⟨S_, .bf16⟩
  | .hbm, ⟨24, _⟩ => ⟨S5120x8960, .bf16⟩
  | .hbm, ⟨25, _⟩ => ⟨S5120x8960, .bf16⟩
  | .hbm, ⟨26, _⟩ => ⟨S40x128x8960, .bf16⟩
  | .hbm, ⟨27, _⟩ => ⟨S40x1x8960, .bf16⟩
  | .hbm, ⟨28, _⟩ => ⟨S40x128x8960, .bf16⟩
  | .hbm, ⟨29, _⟩ => ⟨S40x128x8960, .bf16⟩
  | .hbm, ⟨30, _⟩ => ⟨S5120x8960, .bf16⟩
  | .hbm, ⟨31, _⟩ => ⟨S256x8960, .f32⟩
  | .hbm, ⟨32, _⟩ => ⟨S256x8960, .bf16⟩
  | .hbm, ⟨33, _⟩ => ⟨S256x8960, .f32⟩
  | .hbm, ⟨34, _⟩ => ⟨S256x8960, .bf16⟩
  | .hbm, ⟨35, _⟩ => ⟨S256x8960x1, .bf16⟩
  | .hbm, ⟨36, _⟩ => ⟨S256x8960x1, .bf16⟩
  | .hbm, ⟨37, _⟩ => ⟨S256x8960x2, .bf16⟩
  | .hbm, ⟨38, _⟩ => ⟨S256x1x17920, .bf16⟩
  | _, _ => ⟨S256x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proof.Spec.lean ====
/-
  THE MATHEMATICS of the certificate, in four definitions: the four-bit code a packed byte holds for a column, the
  dequantised weight, one element of the product of the activations by the dequantised weights, and that element as a
  function of the three argument arrays. The kernel's block
  (Block.lean), its whole result (Array.lean) and the reference's result (RefValue.lean) are each shown to be this.
-/
module

public import Idealize.ShloMosaic.PureOps.Ideal
public import Idealize.ShloMosaic.Lib.Pointwise

@[expose] public section

noncomputable section

namespace Cert.Proof

open Idealize.ShloMosaic

/-- The four-bit code that the packed byte `w` holds for a column of parity `p`: its low four bits for an even column
    (`p = 0`), its high four bits for an odd one. -/
def code (p : Nat) (w : BitVec 8) : Nat := if p = 0 then w.toNat % 16 else w.toNat / 16

/-- The dequantised weight: the code less eight, times the scale of its group. -/
def weight (p : Nat) (w : BitVec 8) (s : EReal) : EReal := (((code p w : ℝ) : EReal) - 8) * s

/-- One element of the product: the sum over the 5120 rows of an activation times the dequantised weight, whose scale is
    that of the row's group of 128. `x` is a row of the activations, `w` a column of packed bytes and `s` a column of
    scales. -/
def element (x : Fin 5120 → EReal) (p : Nat) (w : Fin 5120 → BitVec 8) (s : Fin 40 → EReal) : EReal :=
  ∑ k : Fin 5120, x k * weight p (w k) (s ⟨k.val / 128, by omega⟩)

/-- The product at row `r` and column `c`, of the activations, the packed bytes and the scales: byte column `c / 2` holds
    the codes of columns `c` even and odd, and each column has its own scales. -/
def entry (x : (⟨3, ![256, 1, 5120]⟩ : Shape).Idx → EReal) (w : (⟨2, ![5120, 8960]⟩ : Shape).Idx → BitVec 8)
    (s : (⟨2, ![40, 17920]⟩ : Shape).Idx → EReal) (r : Fin 256) (c : Fin 17920) : EReal :=
  element (fun k => x (ix3 r 0 k)) (c.val % 2) (fun k => w (ix2 k ⟨c.val / 2, by omega⟩)) (fun g => s (ix2 g c))

/-- The bfloat16 pattern `0x4100` is eight. -/
theorem ofBits_eight : Ideal.ofBits .bf16 0x4100#16 = 8 := by
  simp [Ideal.ofBits, Ideal.ieee]
  rw [← EReal.coe_mul]
  norm_num
  rfl

/-- The low four bits of a byte as a signed byte: the code of an even column. -/
theorem toInt_low8 (w : BitVec 8) : (w &&& 15#8).toInt = (code 0 w : Int) := by
  revert w; unfold code; decide +kernel

/-- The high four bits of a byte as a signed byte: the code of an odd column. -/
theorem toInt_high8 (w : BitVec 8) : (w >>> 4).toInt = (code 1 w : Int) := by
  revert w; unfold code; decide +kernel

/-- The low four bits of a byte widened to a word: the code of an even column. -/
theorem toInt_low32 (w : BitVec 8) : (IntOp.andi (w.setWidth 32) 15#32).toInt = (code 0 w : Int) := by
  revert w; unfold code IntOp.andi; decide +kernel

/-- A byte widened to a word and shifted right by four: the code of an odd column. -/
theorem toInt_high32 (w : BitVec 8) : (IntOp.shrsi .host (w.setWidth 32) 4#32).toInt = (code 1 w : Int) := by
  revert w; unfold code; decide +kernel

end Cert.Proof

end
-- ==== Proof.Scales.lean ====
/-
  THE SCALES of a block, split by the parity of their column. The kernel splits 512 scale columns into the 256 even and
  the 256 odd ones by gathers along the lanes: output lane `l` of a half reads source lane `2 l mod 128` (one more for the
  odd ones) of the first 128 columns where `l < 64` and of the next 128 where not. So even lane `j` is column `2 j` and
  odd lane `j` is column `2 j + 1` of the block.
-/
module

public import proofs.«01_k».proof.Proof.Gen.KernelIdeal.Skeleton
public import Idealize.ShloMosaic.PureOps.Ideal
public import Idealize.ShloMosaic.Lib.Pointwise

@[expose] public section

set_option maxRecDepth 16384

noncomputable section

namespace Cert.Proof

open Idealize.ShloMosaic Idealize.SL.Sem Cert.KernelIdeal Cert.KernelIdeal.Gen

/-- A lane number below 128 is not negative, so wrapping negative lane numbers leaves it. -/
theorem wrap_lane (n : Nat) (hn : n < 128) :
    Scalar.select (IntOp.cmpi .slt (BitVec.ofNat 32 n) 0#32) (IntOp.addi (BitVec.ofNat 32 n) 128#32) (BitVec.ofNat 32 n)
      = BitVec.ofNat 32 n := by
  have h : ∀ k : Fin 128, Scalar.select (IntOp.cmpi .slt (BitVec.ofNat 32 k.val) 0#32)
      (IntOp.addi (BitVec.ofNat 32 k.val) 128#32) (BitVec.ofNat 32 k.val) = BitVec.ofNat 32 k.val := by decide +kernel
  exact h ⟨n, hn⟩

/-- A lane number below 128 read back from its word. -/
theorem lane_toNat (n : Nat) (hn : n < 128) : (BitVec.ofNat 32 n).toNat % 128 = n := by
  rw [BitVec.toNat_ofNat]; omega

/-- An element of a matrix is named by its column's number. -/
theorem at_col {α : Type} {R C : Nat} (x : (⟨2, ![R, C]⟩ : Shape).Idx → α) (g : Fin R) {a b : Fin C} (h : a.val = b.val) :
    x (ix2 g a) = x (ix2 g b) := congrArg (fun k => x (ix2 g k)) (Fin.ext h)

/-- The gathers' source lane: twice the lane, modulo 128. -/
theorem source_apply (g : Fin 40) (l : Fin 128) : k0_pay2 (ix2 g l) = BitVec.ofNat 32 (2 * l.val % 128) := by
  pointwise [k0_pay2]
  revert l; decide +kernel

/-- The source lane of the odd columns is one more. -/
theorem source_next (n : Nat) : IntOp.addi (BitVec.ofNat 32 n) 1#32 = BitVec.ofNat 32 (n + 1) :=
  (BitVec.ofNat_add n 1).symm

/-- The mask of the lower half of the lanes. -/
theorem half_apply (g : Fin 40) (l : Fin 128) : k0_pay3 (ix2 g l) = if l.val < 64 then 1#1 else 0#1 := by
  pointwise [k0_pay3]
  revert l; decide +kernel

/-- The choice between two lanes of two neighbouring 128-column pieces (at columns `o` and `o + 128`), by the half of the
    lanes that `l` is in, is the column `o + 2 l + d` of the whole. -/
theorem pick {α : Type} (x : S40x512.Idx → α) (g : Fin 40) (l : Fin 128) (d : Nat) (hd : d < 2) (a b c : Fin 512) (o : Nat)
    (ha : a.val = o + (2 * l.val % 128 + d)) (hb : b.val = o + 128 + (2 * l.val % 128 + d)) (hc : c.val = o + 2 * l.val + d) :
    Scalar.select (if l.val < 64 then 1#1 else 0#1) (x (ix2 g a)) (x (ix2 g b)) = x (ix2 g c) := by
  split
  · exact at_col x g (by omega)
  · exact at_col x g (by omega)

/-- The even columns of the first 256. -/
theorem even_first (v : Vec Ideal S40x512 .bf16) (g : Fin 40) (l : Fin 128) :
    k0_pay6 v (ix2 g l) = v (ix2 g ⟨2 * l.val, by omega⟩) := by
  pointwise [k0_pay6, k0_pay4, k0_pay5, k0_pay1]
  simp only [source_apply, half_apply, wrap_lane (2 * l.val % 128) (by omega), lane_toNat (2 * l.val % 128) (by omega)]
  exact pick v g l 0 (by omega) _ _ _ 0 (by simp) (by simp) (by simp)

/-- The even columns of the last 256. -/
theorem even_last (v : FVec Ideal S40x512 .f32) (g : Fin 40) (l : Fin 128) :
    k0_pay11 v k0_pay2 k0_pay3 (ix2 g l) = v (ix2 g ⟨256 + 2 * l.val, by omega⟩) := by
  pointwise [k0_pay11, k0_pay9, k0_pay10]
  simp only [source_apply, half_apply, wrap_lane (2 * l.val % 128) (by omega), lane_toNat (2 * l.val % 128) (by omega)]
  exact pick v g l 0 (by omega) _ _ _ 256 (by simp) (by simp) (by simp)

/-- The odd columns of the first 256. -/
theorem odd_first (v : Vec Ideal S40x512 .bf16) (g : Fin 40) (l : Fin 128) :
    k0_pay8 k0_pay2 k0_pay3 (k0_pay4 v) (k0_pay5 v) k0_pay7 (ix2 g l) = v (ix2 g ⟨2 * l.val + 1, by omega⟩) := by
  pointwise [k0_pay8, k0_pay7, k0_pay4, k0_pay5, k0_pay1]
  simp only [source_apply, half_apply, source_next, wrap_lane (2 * l.val % 128 + 1) (by omega),
    lane_toNat (2 * l.val % 128 + 1) (by omega)]
  exact pick v g l 1 (by omega) _ _ _ 0 (by simp) (by simp) (by simp)

/-- All 256 even columns: lane `j` is column `2 j`. -/
theorem even_apply (v : Vec Ideal S40x512 .bf16) (g : Fin 40) (j : Fin 256) :
    k0_pay13 (k0_pay6 v) (k0_pay11 (k0_pay1 v) k0_pay2 k0_pay3) (ix2 g j) = v (ix2 g ⟨2 * j.val, by omega⟩) := by
  pointwise [k0_pay13]
  split
  · rw [even_first]
  · rw [even_last]
    pointwise [k0_pay1]
    exact at_col v g (by simp; omega)

/-- All 256 odd columns: lane `j` is column `2 j + 1`. -/
theorem odd_apply (v : Vec Ideal S40x512 .bf16) (g : Fin 40) (j : Fin 256) :
    k0_pay14 k0_pay2 k0_pay3 (k0_pay8 k0_pay2 k0_pay3 (k0_pay4 v) (k0_pay5 v) k0_pay7) (k0_pay10 (k0_pay1 v))
        (k0_pay12 (k0_pay1 v) k0_pay2) (ix2 g j)
      = v (ix2 g ⟨2 * j.val + 1, by omega⟩) := by
  pointwise [k0_pay14, k0_pay12, k0_pay10, k0_pay9]
  split
  · rw [odd_first]
  · rename_i h
    simp only [source_apply, half_apply, source_next, wrap_lane (2 * (j.val - 128) % 128 + 1) (by omega),
      lane_toNat (2 * (j.val - 128) % 128 + 1) (by omega)]
    pointwise [k0_pay1]
    exact pick v g ⟨j.val - 128, by omega⟩ 1 (by omega) _ _ _ 256 (by simp) (by simp) (by simp; omega)

end Cert.Proof

end
-- ==== Proof.Codes.lean ====
/-
  THE CODES of a block. The kernel reads four packed bytes (four rows of one column) as one 32-bit word, masks the words
  with `0x0F0F0F0F` — after a right shift by four for the odd columns — and reads the words as bytes again. Element by
  element that is the byte's low four bits, respectively its high four bits: the code of an even, respectively an odd
  column.
-/
module

public import proofs.«01_k».proof.Proof.Gen.KernelIdeal.Skeleton
public import proofs.«01_k».proof.Proof.Spec
public import Idealize.ShloMosaic.Lib.BitcastPair

@[expose] public section

set_option maxRecDepth 16384

noncomputable section

namespace Cert.Proof

open Idealize.ShloMosaic Idealize.SL.Sem Cert.KernelIdeal Cert.KernelIdeal.Gen

/-- A source index of a reinterpretation of a 5120-row matrix is the row it names in the column it is read from. -/
theorem srcIdx_bytes (h : S5120x256.Bitcasts 8 S1280x256 32) (r : Fin 1280) (j : Fin 256) (p : Nat) (hp) (hp' : p < 5120) :
    h.srcIdx (ix2 r j) p hp = ix2 ⟨p, hp'⟩ j := by
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by decide))

/-- The same for a reinterpretation of the 1280-row matrix of words. -/
theorem srcIdx_words (h : S1280x256.Bitcasts 32 S5120x256 8) (k : Fin 5120) (j : Fin 256) (p : Nat) (hp) (hp' : p < 1280) :
    h.srcIdx (ix2 k j) p hp = ix2 ⟨p, hp'⟩ j := by
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by decide))

/-- The word at row `r` holds byte row `p` of its column at bits `8 (p mod 4)` and up. -/
theorem word_bit (x : IVec S5120x256 8) (h : S5120x256.Bitcasts 8 S1280x256 32) (r : Fin 1280) (j : Fin 256) (q : Nat)
    (hq : q < 32) (p : Fin 5120) (hp : p.val = 4 * r.val + q / 8) :
    (bitcast S1280x256 32 x h (ix2 r j)).getLsbD q = (x (ix2 p j)).getLsbD (q % 8) := by
  rw [bitcast_getLsbD x h _ q hq (by decide)]
  have hrow : S1280x256.row (ix2 r j) = r.val := rfl
  rw [srcIdx_bytes h r j _ _ (by rw [hrow]; omega)]
  rw [show (⟨(S1280x256.row (ix2 r j) * 32 + q) / 8, by rw [hrow]; omega⟩ : Fin 5120) = p from
    Fin.ext (by rw [hp]; dsimp only; rw [hrow]; omega)]
  rw [hrow, show (r.val * 32 + q) % 8 = q % 8 by omega]

/-- Byte row `k` of a matrix of words is bits `8 (k mod 4)` and up of the word at row `k / 4`. -/
theorem byte_bit (y : IVec S1280x256 32) (h : S1280x256.Bitcasts 32 S5120x256 8) (k : Fin 5120) (j : Fin 256) (q : Nat)
    (hq : q < 8) :
    (bitcast S5120x256 8 y h (ix2 k j)).getLsbD q
      = (y (ix2 ⟨k.val / 4, by omega⟩ j)).getLsbD (8 * (k.val % 4) + q) := by
  rw [bitcast_getLsbD y h _ q hq (by decide)]
  have hrow : S5120x256.row (ix2 k j) = k.val := rfl
  rw [srcIdx_words h k j _ _ (by rw [hrow]; omega)]
  rw [show (⟨(S5120x256.row (ix2 k j) * 8 + q) / 32, by rw [hrow]; omega⟩ : Fin 1280) = ⟨k.val / 4, by omega⟩ from
    Fin.ext (by dsimp only; rw [hrow]; omega)]
  rw [hrow, show (k.val * 8 + q) % 32 = 8 * (k.val % 4) + q by omega]

/-- The mask has the low four bits of each byte. -/
theorem mask_bit (a : Fin 4) (q : Fin 8) : (252645135#32).getLsbD (8 * a.val + q.val) = (15#8).getLsbD q.val := by
  revert a q; decide +kernel

/-- Masked words read as bytes: each byte's low four bits. -/
theorem low_bits (x : IVec S5120x256 8) (h : S5120x256.Bitcasts 8 S1280x256 32) (h' : S1280x256.Bitcasts 32 S5120x256 8)
    (k : Fin 5120) (j : Fin 256) :
    bitcast S5120x256 8 (andi (bitcast S1280x256 32 x h) (broadcast S1280x256 252645135#32)) h' (ix2 k j)
      = x (ix2 k j) &&& 15#8 := by
  apply BitVec.eq_of_getLsbD_eq
  intro q hq
  rw [byte_bit _ h' k j q hq]
  show ((bitcast S1280x256 32 x h (ix2 ⟨k.val / 4, _⟩ j)) &&& 252645135#32).getLsbD _ = _
  rw [BitVec.getLsbD_and, BitVec.getLsbD_and, mask_bit ⟨k.val % 4, by omega⟩ ⟨q, hq⟩,
    word_bit x h _ j _ (by omega) k (by dsimp only; omega), show (8 * (k.val % 4) + q) % 8 = q by omega]

/-- Words shifted right by four, masked and read as bytes: each byte's high four bits. -/
theorem high_bits (x : IVec S5120x256 8) (h : S5120x256.Bitcasts 8 S1280x256 32) (h' : S1280x256.Bitcasts 32 S5120x256 8)
    (k : Fin 5120) (j : Fin 256) :
    bitcast S5120x256 8 (andi (shrui (bitcast S1280x256 32 x h) (broadcast S1280x256 4#32)) (broadcast S1280x256 252645135#32))
        h' (ix2 k j)
      = x (ix2 k j) >>> 4 := by
  apply BitVec.eq_of_getLsbD_eq
  intro q hq
  rw [byte_bit _ h' k j q hq]
  show (((bitcast S1280x256 32 x h (ix2 ⟨k.val / 4, _⟩ j)) >>> 4) &&& 252645135#32).getLsbD _ = _
  rw [BitVec.getLsbD_and, mask_bit ⟨k.val % 4, by omega⟩ ⟨q, hq⟩, BitVec.getLsbD_ushiftRight, BitVec.getLsbD_ushiftRight]
  by_cases h4 : q < 4
  · rw [word_bit x h _ j _ (by omega) k (by dsimp only; omega), show (4 + (8 * (k.val % 4) + q)) % 8 = 4 + q by omega,
      show (15#8).getLsbD (⟨q, hq⟩ : Fin 8).val = true by
        dsimp only; interval_cases q <;> rfl, Bool.and_true]
  · rw [show (15#8).getLsbD (⟨q, hq⟩ : Fin 8).val = false by
        dsimp only; interval_cases q <;> first | rfl | omega, Bool.and_false, BitVec.getLsbD_of_ge _ _ (by omega)]

/-- The even columns' codes less eight. -/
theorem even_code (x : Vec Ideal S5120x256 .i8) (k : Fin 5120) (j : Fin 256) :
    k0_pay17 (F := Ideal) x (ix2 k j) = ((code 0 (x (ix2 k j)) : ℝ) : EReal) - 8 := by
  pointwise [k0_pay17, k0_pay15]
  rw [low_bits, ofBits_eight]
  show (((x (ix2 k j) &&& 15#8).toInt : ℝ) : EReal) - 8 = _
  rw [toInt_low8, Int.cast_natCast]

/-- The odd columns' codes less eight. -/
theorem odd_code (x : Vec Ideal S5120x256 .i8) (k : Fin 5120) (j : Fin 256) :
    k0_pay57 (F := Ideal) (k0_pay15 (F := Ideal) x) (ix2 k j) = ((code 1 (x (ix2 k j)) : ℝ) : EReal) - 8 := by
  pointwise [k0_pay57, k0_pay15]
  rw [high_bits, ofBits_eight]
  show (((x (ix2 k j) >>> 4).toInt : ℝ) : EReal) - 8 = _
  rw [toInt_high8, Int.cast_natCast]

end Cert.Proof

end
-- ==== Proof.Weights.lean ====
/-
  THE WEIGHTS of a block, one matrix per column parity. The kernel multiplies the codes of each group of 128 rows by the
  group's row of scales and lays the 40 products one under the other; row `k` of the result is row `k` of the codes times
  row `k / 128` of the scales. The product of the activations by it is the sum over the 5120 rows.
-/
module

public import proofs.«01_k».proof.Proof.Gen.KernelIdeal.Frame
public import Idealize.ShloMosaic.PureOps.Ideal
public import Idealize.ShloMosaic.Lib.Pointwise
public import Idealize.ShloMosaic.Lib.Pipeline.Value

@[expose] public section

set_option maxRecDepth 16384

noncomputable section

namespace Cert.Proof

open Idealize.ShloMosaic Idealize.SL.Sem Cert.KernelIdeal Cert.KernelIdeal.Gen

variable {F : FTy → Type} [FloatOps F]

/-- Group `g`'s rows of the codes. -/
theorem rows_slice : ∀ g : Fin 40, S5120x256.Slices (![128 * g.val, 0] : Fin 2 → Nat) S128x256 := by decide +kernel

/-- Group `g`'s row of the scales. -/
theorem row_slice : ∀ g : Fin 40, S40x256.Slices (![g.val, 0] : Fin 2 → Nat) S1x256 := by decide +kernel

/-- Group `g`'s product: its 128 rows of codes, each times its row of scales. -/
def groupProd (codes : FVec F S5120x256 .bf16) (s : FVec F S40x256 .f32) (g : Fin 40) : FVec F S128x256 .bf16 :=
  mulf (extractStridedSlice S128x256 ![128 * g.val, 0] codes (rows_slice g))
    (truncf .bf16 (broadcastTo S128x256 (shapeCast S1x256 (extractStridedSlice S1x256 ![g.val, 0] s (row_slice g))
      shapeCasts_S1x256_S1x256) broadcasts_S1x256_S128x256) bitsLt_bf16_f32)

/-- The shapes of the forty pieces lie one under the other. -/
theorem forty_fit (f : Fin 40 → FVec F S128x256 .bf16) :
    Shape.Concatenates ((List.ofFn fun n : Fin 40 => (⟨S128x256, f n⟩ : (s : Shape) × (s.Idx → F .bf16))).map (·.1)) S5120x256 0 :=
  concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S5120x256_d0

/-- The weights: the forty products one under the other. -/
def weights (codes : FVec F S5120x256 .bf16) (s : FVec F S40x256 .f32) : FVec F S5120x256 .bf16 :=
  concatenate S5120x256 0 (List.ofFn fun n : Fin 40 => ⟨S128x256, groupProd codes s n⟩) (forty_fit _)

/-- One group's product, element by element. -/
theorem groupProd_apply (codes : FVec Ideal S5120x256 .bf16) (s : FVec Ideal S40x256 .f32) (g : Fin 40) (i : Fin 128)
    (j : Fin 256) : groupProd codes s g (ix2 i j) = codes (ix2 ⟨128 * g.val + i.val, by omega⟩ j) * s (ix2 g j) := by
  pointwise [groupProd]

/-- The weights, element by element: the code times the scale of its group of 128 rows. -/
theorem weights_apply (codes : FVec Ideal S5120x256 .bf16) (s : FVec Ideal S40x256 .f32) (k : Fin 5120) (j : Fin 256) :
    weights codes s (ix2 k j) = codes (ix2 k j) * s (ix2 ⟨k.val / 128, by omega⟩ j) := by
  unfold weights
  rw [concatenate_ofFn_apply (s₁ := S128x256) (t := S5120x256) 0 (groupProd codes s) (forty_fit _) rfl 128 rfl (ix2 k j)
    ⟨k.val / 128, by omega⟩ rfl (ix2 ⟨k.val % 128, by omega⟩ j) rfl (by
      intro b hb
      match b with
      | ⟨0, _⟩ => exact absurd rfl hb
      | ⟨1, _⟩ => rfl)]
  rw [groupProd_apply]
  congr 2
  exact congrArg (fun a => ix2 a j) (Fin.ext (Nat.div_add_mod _ _))

/-- The product of the activations by a matrix of weights, rounded to bfloat16 and widened again. -/
def product (x : FVec F S256x5120 .bf16) (w : FVec F S5120x256 .bf16) : FVec F S256x256 .f32 :=
  extf .f32 (truncf .bf16 (matmul dot_S256x5120_S5120x256_S256x256_1_0_0_1_n_n none x w (constant S256x256 .f32 0x00000000#32))
    bitsLt_bf16_f32) bitsLt_bf16_f32

/-- Element by element it is the sum over the 5120 rows of the weights. -/
theorem product_apply (x : FVec Ideal S256x5120 .bf16) (w : FVec Ideal S5120x256 .bf16) (r : Fin 256) (j : Fin 256) :
    product x w (ix2 r j) = ∑ k : Fin 5120, x (ix2 r k) * w (ix2 k j) := by
  pointwise [product]

variable (x0 : Vec F S256x5120 .bf16) (x1 : Vec F S5120x256 .i8) (x2 : Vec F S40x512 .bf16)

set_option maxHeartbeats 1600000 in
/-- What the kernel computes for the even columns is that product by the even columns' weights. -/
theorem even_product : k0_pay116 x0 x1 x2
    = product (k0_pay112 x0 x1 x2) (weights (k0_pay113 x0 x1 x2) (k0_pay109 x0 x1 x2)) := by
  rfl

set_option maxHeartbeats 1600000 in
/-- And for the odd columns, by the odd columns' weights. -/
theorem odd_product : k0_pay117 x0 x1 x2
    = product (k0_pay112 x0 x1 x2) (weights (k0_pay114 x0 x1 x2) (k0_pay110 x0 x1 x2)) := by
  rfl

end Cert.Proof

end
-- ==== Proof.Interleave.lean ====
/-
  THE INTERLEAVING of the two products of a block. The kernel has the even output columns in one 256-column matrix and the
  odd ones in another, and lays them alternately: in each of four pieces of 128 lanes, lane `l` reads source lane
  `l / 2` (plus 64 in every second piece) of a 128-column half of the even matrix where `l` is even and of the odd matrix
  where `l` is odd. So column `q` of the block is column `q / 2` of the matrix of its parity.
-/
module

public import proofs.«01_k».proof.Proof.Scales
public import proofs.«01_k».proof.Proof.Gen.KernelIdeal.Frame

@[expose] public section

set_option maxRecDepth 16384

noncomputable section

namespace Cert.Proof

open Idealize.ShloMosaic Idealize.SL.Sem Cert.KernelIdeal Cert.KernelIdeal.Gen

variable {F : FTy → Type} [FloatOps F]

/-- The lanes of a piece: lane `l` of every row holds the number `l`. -/
abbrev lanes : IVec S256x128 32 := iota .tc S256x128 32 [1] iota_S256x128_d1_w32

/-- The source lanes of a piece: half the lane, plus `d`. -/
def sourceLanes (d : BitVec 32) : IVec S256x128 32 := addi (shrsi lanes (broadcast S256x128 1#32)) (broadcast S256x128 d)

/-- A gather along the lanes of a half at those source lanes, negative ones wrapped. -/
def gathered (x : FVec F S256x128 .f32) (d : BitVec 32) : FVec F S256x128 .f32 :=
  dynamicGather 1 x (shapeCast S256x128 (shapeCast S256x128x1
    (select (cmpi .slt (sourceLanes d) (broadcast S256x128 0#32)) (addi (sourceLanes d) (broadcast S256x128 128#32)) (sourceLanes d))
    shapeCasts_S256x128_S256x128x1) shapeCasts_S256x128x1_S256x128)

/-- One piece of the output: the even half's gather in the even lanes and the odd half's in the odd ones. -/
def piece (e o : FVec F S256x128 .f32) (d : BitVec 32) : FVec F S256x128 .bf16 :=
  truncf .bf16 (select k0_pay96 (gathered o d) (gathered e d)) bitsLt_bf16_f32

/-- The four pieces side by side. -/
def merged (e o : FVec F S256x256 .f32) : FVec F S256x512 .bf16 :=
  concatenate S256x512 1 [⟨S256x128, piece (k0_pay97 e) (k0_pay98 o) 0#32⟩, ⟨S256x128, piece (k0_pay97 e) (k0_pay98 o) 64#32⟩,
    ⟨S256x128, piece (k0_pay101 e) (k0_pay102 o) 0#32⟩, ⟨S256x128, piece (k0_pay101 e) (k0_pay102 o) 64#32⟩]
    concatenates_S256x128_S256x128_S256x128_S256x128_S256x512_d1

/-- The kernel's interleaving is the four pieces side by side. -/
theorem interleave_eq (e o : FVec F S256x256 .f32) :
    k0_pay103 lanes k0_pay96 (k0_pay99 e o lanes k0_pay96) (k0_pay100 e o lanes k0_pay96) (k0_pay101 e) (k0_pay102 o)
      = merged e o := rfl

/-- A source lane is half the lane, plus `d`. -/
theorem sourceLanes_apply (d : Fin 65) (r : Fin 256) (l : Fin 128) :
    sourceLanes (BitVec.ofNat 32 d.val) (ix2 r l) = BitVec.ofNat 32 (l.val / 2 + d.val) := by
  pointwise [sourceLanes]
  have h : IntOp.shrsi .vector (BitVec.ofNat 32 l.val) 1#32 = BitVec.ofNat 32 (l.val / 2) := by
    revert l; decide +kernel
  rw [h]
  exact (BitVec.ofNat_add _ _).symm

/-- The mask of the odd lanes. -/
theorem odd_lane (r : Fin 256) (l : Fin 128) : k0_pay96 (ix2 r l) = if l.val % 2 = 1 then 1#1 else 0#1 := by
  pointwise [k0_pay96]
  revert l; decide +kernel

/-- A gather, element by element. -/
theorem gathered_apply (x : FVec Ideal S256x128 .f32) (d : Fin 65) (r : Fin 256) (l : Fin 128) :
    gathered x (BitVec.ofNat 32 d.val) (ix2 r l) = x (ix2 r ⟨l.val / 2 + d.val, by omega⟩) := by
  pointwise [gathered]
  refine at_col x r ?_
  simp only [sourceLanes_apply, wrap_lane (l.val / 2 + d.val) (by omega)]
  exact lane_toNat _ (by omega)

/-- A piece, element by element. -/
theorem piece_apply (e o : FVec Ideal S256x128 .f32) (d : Fin 65) (r : Fin 256) (l : Fin 128) :
    piece e o (BitVec.ofNat 32 d.val) (ix2 r l)
      = if l.val % 2 = 0 then e (ix2 r ⟨l.val / 2 + d.val, by omega⟩) else o (ix2 r ⟨l.val / 2 + d.val, by omega⟩) := by
  pointwise [piece]
  rw [odd_lane, gathered_apply, gathered_apply]
  rcases Nat.mod_two_eq_zero_or_one l.val with h | h
  · rw [if_neg (by omega), if_pos h]; rfl
  · rw [if_pos h, if_neg (by omega)]; rfl

/-- The value at column `q` of two matrices whose columns are laid alternately. -/
def alternate (e o : FVec Ideal S256x256 .f32) (r : Fin 256) (q : Fin 512) : EReal :=
  if q.val % 2 = 0 then e (ix2 r ⟨q.val / 2, by omega⟩) else o (ix2 r ⟨q.val / 2, by omega⟩)

/-- The pieces of the first halves are the columns from `2 d` on. -/
theorem piece_first (e o : FVec Ideal S256x256 .f32) (d : Fin 65) (r : Fin 256) (l : Fin 128) (q : Fin 512)
    (hq : q.val = 2 * d.val + l.val) :
    piece (k0_pay97 e) (k0_pay98 o) (BitVec.ofNat 32 d.val) (ix2 r l) = alternate e o r q := by
  rw [piece_apply]
  pointwise [k0_pay97, k0_pay98]
  exact ite_congr (by rw [hq, Nat.mul_add_mod]) (fun _ => at_col e r (by simp; omega)) (fun _ => at_col o r (by simp; omega))

/-- The pieces of the last halves are the columns from `256 + 2 d` on. -/
theorem piece_last (e o : FVec Ideal S256x256 .f32) (d : Fin 65) (r : Fin 256) (l : Fin 128) (q : Fin 512)
    (hq : q.val = 256 + 2 * d.val + l.val) :
    piece (k0_pay101 e) (k0_pay102 o) (BitVec.ofNat 32 d.val) (ix2 r l) = alternate e o r q := by
  rw [piece_apply]
  pointwise [k0_pay101, k0_pay102]
  exact ite_congr (by simp only [eq_iff_iff]; omega) (fun _ => at_col e r (by simp; omega)) (fun _ => at_col o r (by simp; omega))

/-- The four pieces side by side are the two matrices' columns laid alternately. -/
theorem merged_apply (e o : FVec Ideal S256x256 .f32) (r : Fin 256) (q : Fin 512) :
    merged e o (ix2 r q) = alternate e o r q := by
  pointwise [merged]
  split
  · exact piece_first e o ⟨0, by omega⟩ r _ q (by simp)
  split
  · exact piece_first e o ⟨64, by omega⟩ r _ q (by simp; omega)
  split
  · exact piece_last e o ⟨0, by omega⟩ r _ q (by simp; omega)
  · exact piece_last e o ⟨64, by omega⟩ r _ q (by simp; omega)

end Cert.Proof

end
-- ==== Proof.Block.lean ====
/-
  THE BLOCK that the kernel's body computes from its three input blocks — the activations, 256 columns of packed bytes and
  512 columns of scales: element `(r, q)` is the product's element for row `r` of the activations and column `q`, whose
  code is in byte column `q / 2`, in the half of the byte that `q`'s parity says.
-/
module

public import proofs.«01_k».proof.Proof.Spec
public import proofs.«01_k».proof.Proof.Scales
public import proofs.«01_k».proof.Proof.Codes
public import proofs.«01_k».proof.Proof.Weights
public import proofs.«01_k».proof.Proof.Interleave

@[expose] public section

set_option maxRecDepth 16384

noncomputable section

namespace Cert.Proof

open Idealize.ShloMosaic Idealize.SL.Sem Cert.KernelIdeal Cert.KernelIdeal.Gen

/-- The offsets of a load or store of a whole block. -/
theorem zero_offsets : (![0, 0] : Fin 2 → Nat) = fun _ => 0 := funext fun a => by fin_cases a <;> rfl

section
variable {F : FTy → Type} [FloatOps F]
variable (x0 : Vec F S256x5120 .bf16) (x1 : Vec F S5120x256 .i8) (x2 : Vec F S40x512 .bf16)

/-- The block is the two products interleaved. -/
theorem out_eq : out0_3 x0 x1 x2 = merged (k0_pay116 x0 x1 x2) (k0_pay117 x0 x1 x2) := by
  unfold out0_3
  rw [View.canon_unit_zero zero_offsets]
  exact interleave_eq _ _

end

variable (x0 : Vec Ideal S256x5120 .bf16) (x1 : Vec Ideal S5120x256 .i8) (x2 : Vec Ideal S40x512 .bf16)

/-- The activations of the product are the block's. -/
theorem activations (r : Fin 256) (k : Fin 5120) : k0_pay112 x0 x1 x2 (ix2 r k) = x0 (ix2 r k) := by
  unfold k0_pay112
  rw [View.ld_unit_zero zero_offsets]
  pointwise [k0_pay16]

/-- The even columns' codes, from the block of packed bytes. -/
theorem even_codes (k : Fin 5120) (j : Fin 256) :
    k0_pay113 x0 x1 x2 (ix2 k j) = ((code 0 (x1 (ix2 k j)) : ℝ) : EReal) - 8 := by
  unfold k0_pay113
  rw [View.ld_unit_zero zero_offsets, even_code]

/-- The odd columns' codes, from the block of packed bytes. -/
theorem odd_codes (k : Fin 5120) (j : Fin 256) :
    k0_pay114 x0 x1 x2 (ix2 k j) = ((code 1 (x1 (ix2 k j)) : ℝ) : EReal) - 8 := by
  unfold k0_pay114 k0_pay111
  rw [View.ld_unit_zero zero_offsets, odd_code]

/-- The even columns' scales, from the block of scales. -/
theorem even_scales (g : Fin 40) (j : Fin 256) :
    k0_pay109 x0 x1 x2 (ix2 g j) = x2 (ix2 g ⟨2 * j.val, by omega⟩) := by
  unfold k0_pay109 k0_pay108 k0_pay107 k0_pay106 k0_pay105 k0_pay104
  rw [View.ld_unit_zero zero_offsets, even_apply]

/-- The odd columns' scales, from the block of scales. -/
theorem odd_scales (g : Fin 40) (j : Fin 256) :
    k0_pay110 x0 x1 x2 (ix2 g j) = x2 (ix2 g ⟨2 * j.val + 1, by omega⟩) := by
  unfold k0_pay110 k0_pay106 k0_pay105 k0_pay104
  rw [View.ld_unit_zero zero_offsets, odd_apply]

/-- The even columns' product. -/
theorem even_block (r : Fin 256) (j : Fin 256) :
    k0_pay116 x0 x1 x2 (ix2 r j)
      = element (fun k => x0 (ix2 r k)) 0 (fun k => x1 (ix2 k j)) (fun g => x2 (ix2 g ⟨2 * j.val, by omega⟩)) := by
  rw [even_product, product_apply]
  refine Finset.sum_congr rfl fun k _ => ?_
  rw [activations, weights_apply, even_codes, even_scales, weight]

/-- The odd columns' product. -/
theorem odd_block (r : Fin 256) (j : Fin 256) :
    k0_pay117 x0 x1 x2 (ix2 r j)
      = element (fun k => x0 (ix2 r k)) 1 (fun k => x1 (ix2 k j)) (fun g => x2 (ix2 g ⟨2 * j.val + 1, by omega⟩)) := by
  rw [odd_product, product_apply]
  refine Finset.sum_congr rfl fun k _ => ?_
  rw [activations, weights_apply, odd_codes, odd_scales, weight]

/-- What the block holds. -/
theorem out_apply (r : Fin 256) (q : Fin 512) :
    out0_3 x0 x1 x2 (ix2 r q)
      = element (fun k => x0 (ix2 r k)) (q.val % 2) (fun k => x1 (ix2 k ⟨q.val / 2, by omega⟩)) (fun g => x2 (ix2 g q)) := by
  rw [out_eq, merged_apply, alternate]
  rcases Nat.mod_two_eq_zero_or_one q.val with h | h
  · rw [if_pos h, even_block, h]
    exact congrArg (element _ 0 _) (funext fun g => at_col x2 g (by simp; omega))
  · rw [if_neg (by omega), odd_block, h]
    exact congrArg (element _ 1 _) (funext fun g => at_col x2 g (by simp; omega))

end Cert.Proof

end
-- ==== Proof.Array.lean ====
/-
  THE ARRAY that the grid of 35 blocks leaves. Point `t` reads all the activations, columns `256 t` and up of the packed
  bytes and columns `512 t` and up of the scales, and writes columns `512 t` and up of the result. So every block is a
  block of one function of the argument arrays, and the blocks fill the 17920 columns. The program's result is that array
  with a middle axis of size one.
-/
module

public import proofs.«01_k».proof.Proof.Block
public import Idealize.ShloMosaic.Lib.Quiescent
public import Idealize.ShloMosaic.Lib.StableHlo.Run

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-- The product as the two-axis array that the grid writes. -/
def whole : S256x17920.Idx → EReal := fun i =>
  entry (m ((c : Thread nD τ).loc main_arg0)) (m ((c : Thread nD τ).loc main_arg1)) (m ((c : Thread nD τ).loc main_arg2))
    (i 0) (i 1)

/-- The blocks' places: the activations whole, block `t` of the columns of the other three. -/
theorem places : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- Dropping the middle axis of the activations, element by element. -/
theorem drop_axis (x : Vec Ideal S256x1x5120 .bf16) (r : Fin 256) (k : Fin 5120) :
    shapeCast S256x5120 x shapeCasts_S256x1x5120_S256x5120 (ix2 r k) = x (ix3 r 0 k) := by
  pointwise

/-- The activations as the grid finds them: without their middle axis. -/
theorem entry_x (r : Fin 256) (k : Fin 5120) :
    V m c main_v0 (ix2 r k) = m ((c : Thread nD τ).loc main_arg0) (ix3 r 0 k) := by
  have h : V m c main_v0 = shapeCast S256x5120 (m ((c : Thread nD τ).loc main_arg0)) shapeCasts_S256x1x5120_S256x5120 := by
    show StableHlo.after hostOps0 (fun b => m (c, b)) (Proc.devRef .tc main_v0) = _
    after_results
    rfl
  exact (congrFun h _).trans (drop_axis _ r k)

/-- The block of activations at point `t`. -/
theorem block_x (t : Fin cfg0.N) (r : Fin 256) (k : Fin 5120) :
    iblk m c 0 t (ix2 r k) = m ((c : Thread nD τ).loc main_arg0) (ix3 r 0 k) := by
  refine Eq.trans ?_ (entry_x m c r k)
  obtain ⟨⟨h0, h1⟩, -⟩ := places t
  refine congrArg (V m c main_v0) (funext fun a => Fin.ext ?_)
  match a with
  | ⟨0, _⟩ => exact (Pipeline.Window.rect_emb_val_of_index_zero win0_0 t 0 h0 (ix2 r k)).trans rfl
  | ⟨1, _⟩ => exact (Pipeline.Window.rect_emb_val_of_index_zero win0_0 t 1 h1 (ix2 r k)).trans rfl

/-- The block of packed bytes at point `t`: columns `256 t` and up. -/
theorem block_w (t : Fin cfg0.N) (k : Fin 5120) (j : Fin 256) (b : Fin 8960) (hb : b.val = t.val * 256 + j.val) :
    iblk m c 1 t (ix2 k j) = m ((c : Thread nD τ).loc main_arg1) (ix2 k b) := by
  refine Eq.trans ?_ (congrFun (V_main_arg1 m c) (ix2 k b))
  obtain ⟨-, ⟨h0, h1⟩, -⟩ := places t
  refine congrArg (V m c main_arg1) (funext fun a => Fin.ext ?_)
  match a with
  | ⟨0, _⟩ => exact (Pipeline.Window.rect_emb_val_of_index_zero win0_1 t 0 h0 (ix2 k j)).trans rfl
  | ⟨1, _⟩ => exact (Pipeline.Window.rect_emb_val win0_1 t (ix2 k j) 1).trans ((congrArg (· * 256 + j.val) h1).trans hb.symm)

/-- The block of scales at point `t`: columns `512 t` and up. -/
theorem block_s (t : Fin cfg0.N) (g : Fin 40) (q : Fin 512) (b : Fin 17920) (hb : b.val = t.val * 512 + q.val) :
    iblk m c 2 t (ix2 g q) = m ((c : Thread nD τ).loc main_arg2) (ix2 g b) := by
  refine Eq.trans ?_ (congrFun (V_main_arg2 m c) (ix2 g b))
  obtain ⟨-, -, ⟨h0, h1⟩, -⟩ := places t
  refine congrArg (V m c main_arg2) (funext fun a => Fin.ext ?_)
  match a with
  | ⟨0, _⟩ => exact (Pipeline.Window.rect_emb_val_of_index_zero win0_2 t 0 h0 (ix2 g q)).trans rfl
  | ⟨1, _⟩ => exact (Pipeline.Window.rect_emb_val win0_2 t (ix2 g q) 1).trans ((congrArg (· * 512 + q.val) h1).trans hb.symm)

/-- The place of the element `(r, q)` of block `t` in the array: row `r`, column `512 t + q`. -/
theorem place_out (t : Fin cfg0.N) (r : Fin 256) (q : Fin 512) (b : Fin 17920) (hb : b.val = t.val * 512 + q.val) :
    (win0_3.rect t).emb (ix2 r q) = ix2 r b := by
  obtain ⟨-, -, -, h0, h1⟩ := places t
  refine funext fun a => Fin.ext ?_
  match a with
  | ⟨0, _⟩ => exact (Pipeline.Window.rect_emb_val_of_index_zero win0_3 t 0 h0 (ix2 r q)).trans rfl
  | ⟨1, _⟩ => exact (Pipeline.Window.rect_emb_val win0_3 t (ix2 r q) 1).trans ((congrArg (· * 512 + q.val) h1).trans hb.symm)

/-- There are 35 points. -/
theorem points_lt (t : Fin cfg0.N) : t.val < 35 := t.isLt

/-- What the body computes at point `t` is the block of the product. -/
theorem out_block (t : Fin cfg0.N) (r : Fin 256) (q : Fin 512) :
    out0_3 (iblk m c 0 t) (iblk m c 1 t) (iblk m c 2 t) (ix2 r q) = whole m c ((win0_3.rect t).emb (ix2 r q)) := by
  have ht := points_lt t
  rw [place_out t r q ⟨t.val * 512 + q.val, by omega⟩ rfl]
  refine (out_apply _ _ _ r q).trans ?_
  show _ = entry _ _ _ r ⟨t.val * 512 + q.val, by omega⟩
  unfold entry
  have hp : (t.val * 512 + q.val) % 2 = q.val % 2 := by omega
  rw [hp]
  congr 1
  · exact funext fun k => block_x m c t r k
  · exact funext fun k => block_w m c t k _ _ (by simp; omega)
  · exact funext fun g => block_s m c t g _ _ rfl

/-- What the body computes at point `t` is the product read through the block's place in the array. -/
theorem out_view (t : Fin cfg0.N) :
    out0_3 (iblk m c 0 t) (iblk m c 1 t) (iblk m c 2 t) = fun y => whole m c ((win0_3.rect t).emb y) :=
  funext fun y => by rw [eq_ix2 y]; exact out_block m c t (y 0) (y 1)

/-- What point `t` writes back is its block of the product. -/
theorem flushed_eq (t : Fin cfg0.N) :
    (dats m 0 c).flushed 3 t = (win0_3.blk t).view.read (Elt Ideal) (whole m c) := by
  show (cfg0.win 3).cut (grid0.coords t) ((dats m 0 c).after 3 t) = _
  rw [after0_3, out_view]
  rfl

/-- Every element of the array is in the block of its column's point. -/
theorem covered (i : S256x17920.Idx) : ∃ t : Fin cfg0.N, (cfg0.win 3).flush t = true ∧ i ∈ ((cfg0.win 3).blk t).view.set := by
  have hb : (i 1).val < 17920 := (i 1).isLt
  let t : Fin cfg0.N := ⟨(i 1).val / 512, by show _ < 35; omega⟩
  let q : Fin 512 := ⟨(i 1).val % 512, by omega⟩
  have h : (win0_3.rect t).emb (ix2 (i 0) q) = i :=
    (place_out t (i 0) q (i 1) (by show (i 1).val = (i 1).val / 512 * 512 + (i 1).val % 512; omega)).trans (eq_ix2 i).symm
  refine ⟨t, flush0_3 t, ?_⟩
  have hm := ((cfg0.win 3).blk t).view.emb_mem_set (ix2 (i 0) q)
  rwa [show ((cfg0.win 3).blk t).view.emb (ix2 (i 0) q) = i from h] at hm

/-- The array after the grid is the product. -/
theorem final : (dats m 0 c).arrAt 3 cfg0.N = whole m c :=
  (dats m 0 c).arrAt_eq_of_cover 3 (whole m c) (fun t _ => flushed_eq m c t) covered

/-- The program's result: the product with a middle axis of size one. -/
def result : Vec Ideal S256x1x17920 .bf16 :=
  shapeCast S256x1x17920 (whole m c : Vec Ideal S256x17920 .bf16) shapeCasts_S256x17920_S256x1x17920

/-- Giving an array a middle axis of size one, element by element. -/
theorem add_axis (x : Vec Ideal S256x17920 .bf16) (r : Fin 256) (u : Fin 1) (b : Fin 17920) :
    shapeCast S256x1x17920 x shapeCasts_S256x17920_S256x1x17920 (ix3 r u b) = x (ix2 r b) := by
  pointwise

/-- The program's result, element by element. -/
theorem result_apply (r : Fin 256) (u : Fin 1) (b : Fin 17920) :
    result m c (ix3 r u b) = entry (m ((c : Thread nD τ).loc main_arg0)) (m ((c : Thread nD τ).loc main_arg1))
      (m ((c : Thread nD τ).loc main_arg2)) r b :=
  add_axis _ r u b

/-- The operation after the grid gives the array its middle axis. -/
theorem tail_eq : Pipeline.afterTail₀ cfgs (dats m) 0 (V0 m) [hostOps1] c main_v2 = result m c := by
  unfold Pipeline.afterTail₀
  show StableHlo.after hostOps1 _ (Proc.devRef .tc main_v2) = _
  after_results
  have h : Pipeline.withArrays spec0 c (V0 m c) (fun w => (dats m 0 c).arrAt w cfg0.N) (Proc.devRef .tc main_v1)
      = whole m c :=
    (Pipeline.withArrays_arr spec0 launch0.win.arr_inj c _ _ 3).trans (final m c)
  exact congrArg (fun x : Vec Ideal S256x17920 .bf16 => shapeCast S256x1x17920 x shapeCasts_S256x17920_S256x1x17920) h

/-- THE RUN: every execution ends with the result at the product and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h.1 c).2 main_v2 (Pipeline.mem_restRefs_of main_v2 (by decide) (by decide))).trans (tail_eq m c), h.2 c⟩)
    (θ_run_and (run_main m ρ) (unchanged m ρ))

end Cert.Proof

end
-- ==== Proof.RefValue.lean ====
/-
  THE REFERENCE'S RESULT, element by element. It takes the low and the high four bits of every packed byte, subtracts eight,
  multiplies each group of 128 rows by the group's scales of the even, respectively the odd, columns, multiplies the
  activations by each of the two matrices, and lays the columns of the two products alternately.
-/
module

public import proofs.«01_k».proof.Proof.Spec
public import proofs.«01_k».proof.Proof.Gen.ReferenceIdeal.Run

@[expose] public section

set_option maxRecDepth 16384

noncomputable section

namespace Cert.Proof.Ref

open Idealize.ShloMosaic Idealize.SL.Sem Cert.ReferenceIdeal Cert.ReferenceIdeal.Gen

variable {F : FTy → Type} [FloatOps F]

/-- The codes of the even columns, less eight: the low four bits. -/
def lowCodes (w : IVec S5120x8960 8) : FVec F S5120x8960 .bf16 :=
  subf (sitofp .bf16 (andi (extui 32 w natLt_8_32) (broadcastInDim S5120x8960 ![] bcast_S_S5120x8960 (constantI S_ 32 15#32))))
    (broadcastInDim S5120x8960 ![] bcast_S_S5120x8960 (constant S_ .bf16 0x4100#16))

/-- The codes of the odd columns, less eight: the high four bits. -/
def highCodes (w : IVec S5120x8960 8) : FVec F S5120x8960 .bf16 :=
  subf (sitofp .bf16 (Host.shrsi (extui 32 w natLt_8_32) (broadcastInDim S5120x8960 ![] bcast_S_S5120x8960 (constantI S_ 32 4#32))))
    (broadcastInDim S5120x8960 ![] bcast_S_S5120x8960 (constant S_ .bf16 0x4100#16))

/-- The scales of the even columns. -/
def evenScales (s : FVec F S40x17920 .bf16) : FVec F S40x8960 .bf16 :=
  Host.slice S40x8960 ![0, 0] ![1, 2] s slicesBy_S40x17920_S40x8960_0s1_0s2

/-- The scales of the odd columns. -/
def oddScales (s : FVec F S40x17920 .bf16) : FVec F S40x8960 .bf16 :=
  Host.slice S40x8960 ![0, 1] ![1, 2] s slicesBy_S40x17920_S40x8960_0s1_1s2

/-- Codes times the scales of their groups of 128 rows. -/
def scaled (codes : FVec F S5120x8960 .bf16) (s : FVec F S40x8960 .bf16) : FVec F S5120x8960 .bf16 :=
  shapeCast S5120x8960 (mulf (shapeCast S40x128x8960 codes shapeCasts_S5120x8960_S40x128x8960)
    (broadcastInDim S40x128x8960 ![0, 1, 2] bcast_S40x1x8960_S40x128x8960_0_1_2
      (broadcastInDim S40x1x8960 ![0, 2] bcast_S40x8960_S40x1x8960_0_2 s))) shapeCasts_S40x128x8960_S5120x8960

/-- The product of the activations by one of the two matrices, with a trailing axis of size one. -/
def product (x : FVec F S256x1x5120 .bf16) (w : FVec F S5120x8960 .bf16) : FVec F S256x8960x1 .bf16 :=
  broadcastInDim S256x8960x1 ![0, 1] bcast_S256x8960_S256x8960x1_0_1
    (truncf .bf16 (Host.dotGeneral dot_S256x5120_S5120x8960_S256x8960_1_0_0_1_n_n none
      (shapeCast S256x5120 x shapeCasts_S256x1x5120_S256x5120) w) bitsLt_bf16_f32)

/-- Two arrays laid alternately along the columns. -/
def alternate (e o : FVec F S256x8960x1 .bf16) : FVec F S256x1x17920 .bf16 :=
  shapeCast S256x1x17920 (concatenate S256x8960x2 2 [⟨S256x8960x1, e⟩, ⟨S256x8960x1, o⟩]
    concatenates_S256x8960x1_S256x8960x1_S256x8960x2_d2) shapeCasts_S256x8960x2_S256x1x17920

/-- The reference's result as a function of its arguments. -/
def result (x : FVec F S256x1x5120 .bf16) (w : IVec S5120x8960 8) (s : FVec F S40x17920 .bf16) : FVec F S256x1x17920 .bf16 :=
  alternate (product x (scaled (lowCodes w) (evenScales s))) (product x (scaled (highCodes w) (oddScales s)))

/-- The reference runs and ends with that result and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- The even columns' codes, element by element. -/
theorem lowCodes_apply (w : IVec S5120x8960 8) (k : Fin 5120) (j : Fin 8960) :
    lowCodes (F := Ideal) w (ix2 k j) = ((code 0 (w (ix2 k j)) : ℝ) : EReal) - 8 := by
  pointwise [lowCodes]
  rw [ofBits_eight]
  exact congrArg (fun n : Int => (((n : Int) : ℝ) : EReal) - 8) (toInt_low32 _)

/-- The odd columns' codes, element by element. -/
theorem highCodes_apply (w : IVec S5120x8960 8) (k : Fin 5120) (j : Fin 8960) :
    highCodes (F := Ideal) w (ix2 k j) = ((code 1 (w (ix2 k j)) : ℝ) : EReal) - 8 := by
  pointwise [highCodes]
  rw [ofBits_eight]
  exact congrArg (fun n : Int => (((n : Int) : ℝ) : EReal) - 8) (toInt_high32 _)

/-- The even columns' scales, element by element. -/
theorem evenScales_apply (s : FVec Ideal S40x17920 .bf16) (g : Fin 40) (j : Fin 8960) :
    evenScales s (ix2 g j) = s (ix2 g ⟨2 * j.val, by omega⟩) := by
  pointwise [evenScales]

/-- The odd columns' scales, element by element. -/
theorem oddScales_apply (s : FVec Ideal S40x17920 .bf16) (g : Fin 40) (j : Fin 8960) :
    oddScales s (ix2 g j) = s (ix2 g ⟨2 * j.val + 1, by omega⟩) := by
  pointwise [oddScales]
  exact congrArg (fun a => s (ix2 g a)) (Fin.ext (Nat.add_comm _ _))

/-- The scaled codes, element by element: row `k` is in group `k / 128`. -/
theorem scaled_apply (codes : FVec Ideal S5120x8960 .bf16) (s : FVec Ideal S40x8960 .bf16) (k : Fin 5120) (j : Fin 8960) :
    scaled codes s (ix2 k j) = codes (ix2 k j) * s (ix2 ⟨k.val / 128, by omega⟩ j) := by
  pointwise [scaled]

/-- The product, element by element. -/
theorem product_apply (x : FVec Ideal S256x1x5120 .bf16) (w : FVec Ideal S5120x8960 .bf16) (r : Fin 256) (j : Fin 8960)
    (u : Fin 1) : product x w (ix3 r j u) = ∑ k : Fin 5120, x (ix3 r 0 k) * w (ix2 k j) := by
  pointwise [product]

/-- Column `b` of the alternation is column `b / 2` of the array of its parity. -/
theorem alternate_apply (e o : FVec Ideal S256x8960x1 .bf16) (r : Fin 256) (u : Fin 1) (b : Fin 17920) :
    alternate e o (ix3 r u b)
      = if b.val % 2 = 0 then e (ix3 r ⟨b.val / 2, by omega⟩ 0) else o (ix3 r ⟨b.val / 2, by omega⟩ 0) := by
  pointwise [alternate]
  split
  · rename_i h
    refine Eq.trans ?_ (if_pos (Nat.lt_one_iff.mp h)).symm
    exact congrArg (fun a => e (ix3 r _ a)) (Subsingleton.elim (α := Fin 1) _ _)
  · rename_i h
    refine Eq.trans ?_ (if_neg (fun h' => h (Nat.lt_one_iff.mpr h'))).symm
    exact congrArg (fun a => o (ix3 r _ a)) (Subsingleton.elim (α := Fin 1) _ _)

/-- The reference's result, element by element. -/
theorem result_apply (x : FVec Ideal S256x1x5120 .bf16) (w : IVec S5120x8960 8) (s : FVec Ideal S40x17920 .bf16)
    (r : Fin 256) (u : Fin 1) (b : Fin 17920) : result x w s (ix3 r u b) = entry x w s r b := by
  unfold result entry element
  rw [alternate_apply]
  rcases Nat.mod_two_eq_zero_or_one b.val with h | h
  · rw [if_pos h, product_apply]
    refine Finset.sum_congr rfl fun k _ => ?_
    rw [scaled_apply, lowCodes_apply, evenScales_apply, weight, h]
    exact congrArg (fun a => x (ix3 r 0 k) * (_ * s (ix2 _ a))) (Fin.ext (by simp; omega))
  · rw [if_neg (by omega), product_apply]
    refine Finset.sum_congr rfl fun k _ => ?_
    rw [scaled_apply, highCodes_apply, oddScales_apply, weight, h]
    exact congrArg (fun a => x (ix3 r 0 k) * (_ * s (ix2 _ a))) (Fin.ext (by simp; omega))

end Cert.Proof.Ref

end
-- ==== Proof.lean ====
/-
  The proof of `Cert.Claim` (proofs.«01_k».proof.Defs): the program runs and leaves its arguments and counters as they were,
  for machine words (`quiescent_Kernel`) and for exact values (`quiescent_KernelIdeal`), so does the reference
  (`quiescent_ReferenceIdeal`); the exact reading rewrites nothing (`preserves_Kernel_KernelIdeal`); and at exact values
  the program's result is the reference's (`algebraic_KernelIdeal_ReferenceIdeal`). Hand-written.

  The mathematics is in the modules under Proof/: what an element of the product is (Spec.lean); what the kernel's body
  computes (Scales.lean, Codes.lean, Weights.lean, Interleave.lean, joined in Block.lean); what the grid leaves in the
  result (Array.lean); what the reference computes (RefValue.lean). Here the two results are put side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Gen.ReferenceIdeal.Run
public import proofs.«01_k».proof.Proof.Array
public import proofs.«01_k».proof.Proof.RefValue

@[expose] public section

noncomputable section

namespace Cert.Proof

open Idealize.ShloMosaic Idealize.SL.Sem

/-- The reference runs and leaves its arguments and the counters as they were. -/
theorem reference_frame : Cert.quiescent_ReferenceIdeal (hReferenceIdeal := Cert.ReferenceIdeal.Gen.facts) :=
  fun m ρ _ => (θ_run _ _ _).mono (fun r h => ⟨fun c => (h c).2, Idealize.ShloMosaic.sem_eq_zero_of_no_sems (by decide) r.2⟩)
    (Ref.run (F := Ideal) m ρ)

/-- THE EQUATION: both results are the product, element by element. -/
theorem results_eq (m : (ℓ : Loc Cert.KernelIdeal.nD Cert.KernelIdeal.τ Cert.KernelIdeal.sig) → Buf (Elt Ideal) ℓ)
    (c : Dev Cert.KernelIdeal.nD) :
    Ref.result (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = result m c := by
  funext i
  rw [eq_ix3 i]
  exact (Ref.result_apply _ _ _ (i 0) (i 1) (i 2)).trans (result_apply m c (i 0) (i 1) (i 2)).symm

/-- At exact values, from equal arguments, the program and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => result m c, run m g, ?_⟩
  refine (θ_run (Cert.ReferenceIdeal.defs (F := Ideal)) _ _).mono (fun r h c => ?_) (Ref.run (F := Ideal) m' g')
  obtain ⟨hv, h0, h1, h2⟩ := h c
  refine ⟨hv.trans ?_, h0, h1, h2⟩
  rw [(hargs c).1, (hargs c).2.1, (hargs c).2.2]
  exact results_eq m c

/-- The certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
